-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S6496 : Shape := ⟨1, ![6496]⟩
abbrev S106496 : Shape := ⟨1, ![106496]⟩
abbrev S13x1x8192 : Shape := ⟨3, ![13, 1, 8192]⟩
abbrev S1x64 : Shape := ⟨2, ![1, 64]⟩
abbrev S1x1 : Shape := ⟨2, ![1, 1]⟩
abbrev S1x512 : Shape := ⟨2, ![1, 512]⟩
abbrev S8192x128 : Shape := ⟨2, ![8192, 128]⟩
abbrev S1x1x8192 : Shape := ⟨3, ![1, 1, 8192]⟩
abbrev S2x512 : Shape := ⟨2, ![2, 512]⟩
abbrev S8192x64 : Shape := ⟨2, ![8192, 64]⟩
abbrev S8192x1 : Shape := ⟨2, ![8192, 1]⟩
abbrev S8192x2 : Shape := ⟨2, ![8192, 2]⟩
abbrev S8192 : Shape := ⟨1, ![8192]⟩
abbrev S8192x512 : Shape := ⟨2, ![8192, 512]⟩
abbrev S512 : Shape := ⟨1, ![512]⟩

abbrev nBuf : Space → Nat
  | .hbm => 14
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S_, .i32⟩
  | .hbm, ⟨7, _⟩ => ⟨S6496, .i32⟩
  | .hbm, ⟨8, _⟩ => ⟨S106496, .i32⟩
  | .hbm, ⟨9, _⟩ => ⟨S13x1x8192, .i32⟩
  | .hbm, ⟨10, _⟩ => ⟨S1x64, .f32⟩
  | .hbm, ⟨11, _⟩ => ⟨S1x1, .f32⟩
  | .hbm, ⟨12, _⟩ => ⟨S1x512, .f32⟩
  | .hbm, ⟨13, _⟩ => ⟨S512, .f32⟩
  | .local _ .vmem, ⟨0, _⟩ => ⟨S8192x128, .f32⟩
  | .local _ .vmem, ⟨1, _⟩ => ⟨S8192x128, .f32⟩
  | .local _ .vmem, ⟨2, _⟩ => ⟨S1x1x8192, .i32⟩
  | .local _ .vmem, ⟨3, _⟩ => ⟨S1x1x8192, .i32⟩
  | .local _ .vmem, ⟨4, _⟩ => ⟨S128x64, .f32⟩
  | .local _ .vmem, ⟨5, _⟩ => ⟨S1x64, .f32⟩
  | .local _ .vmem, ⟨6, _⟩ => ⟨S64x1, .f32⟩
  | .local _ .vmem, ⟨7, _⟩ => ⟨S1x1, .f32⟩
  | .local _ .vmem, ⟨8, _⟩ => ⟨S1x512, .f32⟩
  | .local _ .vmem, ⟨9, _⟩ => ⟨S2x512, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![13], ![false]⟩

def k0_cond2 (i : grid0.Coords) : BitVec 1 :=
  let arg0 : BitVec 32 := BitVec.ofNat 32 (i 0).val
  let c12_i32 : BitVec 32 := 12#32
  let v40 : BitVec 1 := Scalar.cmpi .eq arg0 c12_i32
  let v41 : BitVec 32 := Scalar.extui v40
  let c0_i32_20 : BitVec 32 := 0#32
  let v42 : BitVec 1 := Scalar.cmpi .ne v41 c0_i32_20
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000x64 : Shape := ⟨2, ![100000, 64]⟩
abbrev S1x64 : Shape := ⟨2, ![1, 64]⟩
abbrev S_ : Shape := ⟨0, ![]⟩
abbrev S100000x1 : Shape := ⟨2, ![100000, 1]⟩
abbrev S1x1 : Shape := ⟨2, ![1, 1]⟩
abbrev S512 : Shape := ⟨1, ![512]⟩

abbrev nBuf : Space → Nat
  | .hbm => 38
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S100000x64, .f32⟩
  | .hbm, ⟨11, _⟩ => ⟨S100000x64, .f32⟩
  | .hbm, ⟨12, _⟩ => ⟨S_, .f32⟩
  | .hbm, ⟨13, _⟩ => ⟨S100000x64, .f32⟩
  | .hbm, ⟨14, _⟩ => ⟨S100000x64, .f32⟩
  | .hbm, ⟨15, _⟩ => ⟨S_, .f32⟩
  | .hbm, ⟨16, _⟩ => ⟨S100000x64, .f32⟩
  | .hbm, ⟨17, _⟩ => ⟨S100000x64, .f32⟩
  | .hbm, ⟨18, _⟩ => ⟨S100000x64, .f32⟩
  | .hbm, ⟨19, _⟩ => ⟨S100000x1, .f32⟩
  | .hbm, ⟨20, _⟩ => ⟨S1x1, .f32⟩
  | .hbm, ⟨21, _⟩ => ⟨S100000x1, .f32⟩
  | .hbm, ⟨22, _⟩ => ⟨S100000x1, .f32⟩
  | .hbm, ⟨23, _⟩ => ⟨S100000, .f32⟩
  | .hbm, ⟨24, _⟩ => ⟨S_, .f32⟩
  | .hbm, ⟨25, _⟩ => ⟨S512, .f32⟩
  | .hbm, ⟨26, _⟩ => ⟨S100000x1, .i32⟩
  | .hbm, ⟨27, _⟩ => ⟨S512, .f32⟩
  | .hbm, ⟨28, _⟩ => ⟨S_, .f32⟩
  | .hbm, ⟨29, _⟩ => ⟨S100000, .f32⟩
  | .hbm, ⟨30, _⟩ => ⟨S_, .f32⟩
  | .hbm, ⟨31, _⟩ => ⟨S512, .f32⟩
  | .hbm, ⟨32, _⟩ => ⟨S100000x1, .i32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S512, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]
-- ==== Proof.BitsRun.lean ====
module

public import proofs.«01_k».proof.Proof.BitsBody
public import proofs.«01_k».proof.Proof.Gen.Kernel.Frame
public import Idealize.ShloMosaic.Lib.Pipeline.FrameSuffix

@[expose] public section

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A word to name where nothing reads. -/
abbrev filler {s : Shape} : s.Idx → Elt F .f32 := fun _ => Scalar.ofBits .f32 0#32

/-- The pipeline's data on core `c`: the arrays as the region finds them; after each point the input buffers at their
    blocks (the clipped one filled out past the array's end with a word nothing reads); the accumulator at some
    contents; nothing said of the output's buffer. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) filler (iblk m c 0 t)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => filler
  Φ _ := Pipeline.ΦA spec0 c
  q _ := fullShare
  owed _ := 0

/-- The windows nothing is said of: the output's. -/
def forgotten : Fin cfg0.W → Bool
  | ⟨6, _⟩ => true
  | _ => false

theorem A_eq (c : Dev nD) (w : Fin cfg0.W) : (dats m 0 c).A w = V m c (Pipeline.arrRef spec0 w) := by
  dsimp only [dats]

/-- Each point fetches the clipped window: its buffer holds its block inside the array and anything past it. -/
theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) : (dats m 0 c).before 1 t d = iblk m c 1 t :=
  before0_1_of m _ (A_eq m c 1) (fun _ => by dsimp only [dats]) t d
theorem before_2 (c : Dev nD) (t : Fin cfg0.N) (d) : (dats m 0 c).before 2 t d = iblk m c 2 t :=
  before0_2_of m _ (A_eq m c 2) (fun _ => by dsimp only [dats]) t d
theorem before_3 (c : Dev nD) (t : Fin cfg0.N) (d) : (dats m 0 c).before 3 t d = iblk m c 3 t :=
  before0_3_of m _ (A_eq m c 3) (fun _ => by dsimp only [dats]) t d
theorem before_4 (c : Dev nD) (t : Fin cfg0.N) (d) : (dats m 0 c).before 4 t d = iblk m c 4 t :=
  before0_4_of m _ (A_eq m c 4) (fun _ => by dsimp only [dats]) t d
theorem before_5 (c : Dev nD) (t : Fin cfg0.N) (d) : (dats m 0 c).before 5 t d = iblk m c 5 t :=
  before0_5_of m _ (A_eq m c 5) (fun _ => by dsimp only [dats]) t d

/-- The invariant: the accumulator at some contents and the generator's register at some state. -/
theorem inv_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]

/-- The body at point `t`, from what the pipeline hands it to what it takes back. -/
theorem sound_body (c : Dev nD) (t : Fin cfg0.N) :
    iprop(Pipeline.ΦA spec0 c ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ X, owns (c : Thread nD τ) (st0_6 t) fullShare X))
    ⊢ wp frame (wpE (defs₀ (F := F)) Variants.none c none) Set.univ (bodyAt0 t) fun _ =>
    iprop(Pipeline.ΦA spec0 c ∗ (dats m 0 c).owesAt () t.succ
      ∗ (∃ d, owns (c : Thread nD τ) (st0_0 t) fullShare
          (win0_0.fill (grid0.coords t) d (win0_0.cut (grid0.coords t) (win0_0.fill (grid0.coords t) filler (iblk m c 0 t)))))
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare (iblk m c 4 t)
      ∗ owns (c : Thread nD τ) (st0_5 t) fullShare (iblk m c 5 t)
      ∗ (∃ X, owns (c : Thread nD τ) (st0_6 t) fullShare X)) := by
  simp only [before_0, before_1, before_2, before_3, before_4, before_5]
  rw [show (dats m 0 c).owesAt () t.succ = (dats m 0 c).owesAt () t.castSucc from rfl, inv_eq, win0_0.cut_fill]
  iintro ⟨⟨⟨%acc, H7⟩, Hg⟩, Ho, ⟨%d0, H0⟩, ⟨%d1, H1⟩, ⟨%d2, H2⟩, ⟨%d3, H3⟩, ⟨%d4, H4⟩, ⟨%d5, H5⟩, ⟨%X, H6⟩⟩
  iapply (run c (grid0.coords t) _ _ _ _ _ _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [H7 Hg]
  · isplitl [H7]
    · iexists _; iexact H7
    iexact Hg
  isplitl [Ho]; · iexact Ho
  isplitl [H0]; · iexists _; iexact H0
  isplitl [H1]; · iexact H1
  isplitl [H2]; · iexact H2
  isplitl [H3]; · iexact H3
  isplitl [H4]; · iexact H4
  isplitl [H5]; · iexact H5
  iexists _; iexact H6

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The pipeline's obligation on the body, the output's window forgotten. -/
theorem body_obligation (c : Dev nD) :
    BodyObligationLoose (dats (F := F) m 0 c) (defs₀ (F := F)) Variants.none () Set.univ forgotten := fun t => by
  rw [bigSep_W0, bigSep_W0, defs₀_row]
  exact triple_restated (sound_body m c t) rfl .rfl fun _ => .rfl

/-- What the host line after the region writes: the reshaped result. -/
theorem tail_writes : ∀ ops ∈ ([hostOps1] : List (List (HloOp τ sig (Elt F)))), ∀ op ∈ ops, ∀ b : Ref sig .tc,
    Proc.devRef .tc b ∈ op.writes → b ∈ ({main_v6} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb ⊢
  by_contra h
  exact StableHlo.devRef_ne_of_ne h hb

set_option backward.isDefEq.respectTransparency.types false in
set_option maxHeartbeats 800000 in
/-- Every fair execution ends, every argument array unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono
    (fun _ h => ⟨fun c => ⟨
      (h.1.arr_in c 0 rfl).trans ((A_eq m c 0).trans (V_main_arg0 m c)),
      ((h.1 c).2 main_arg1 (Finset.mem_sdiff.mpr ⟨Pipeline.mem_restRefs_of main_arg1 (by decide) (by decide), by decide⟩)).trans (V_main_arg1 m c),
      (h.1.arr_in c 2 rfl).trans ((A_eq m c 2).trans (V_main_arg2 m c)),
      ((h.1 c).2 main_arg3 (Finset.mem_sdiff.mpr ⟨Pipeline.mem_restRefs_of main_arg3 (by decide) (by decide), by decide⟩)).trans (V_main_arg3 m c),
      (h.1.arr_in c 4 rfl).trans ((A_eq m c 4).trans (V_main_arg4 m c)),
      ((h.1 c).2 main_arg5 (Finset.mem_sdiff.mpr ⟨Pipeline.mem_restRefs_of main_arg5 (by decide) (by decide), by decide⟩)).trans (V_main_arg5 m c)⟩, h.2⟩)
    (Pipeline.θ_run_frame_around_T_forget (Q' := _) cfgs (dats m) (0 : Fin 1) launch0 defs₀ Variants.none forgotten {main_v6} m ρ main
      (hbody := body_obligation m) (hshare := fun c => (dats m 0 c).share_full fun _ => rfl)
      (howed := fun _ _ => rfl) (V₀ := V0 m) (opss := [hostOps1]) (hsub := sfx_sub) (hfresh := sfx_fresh) (hkeep := sfx_keeps)
      (hT := tail_writes) (hmain := hmain m Variants.none) (hA := A_eq m) (hΦ := fun _ _ => rfl) (hQ' := fun _ h => h))

end Cert.Kernel.Run

end
-- ==== Proof.IdealBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-- The body's first branch is taken: the point clears the accumulator. -/
abbrev Clears (i : grid0.Coords) : Prop :=
  Scalar.cmpi .ne (Scalar.extui (Scalar.cmpi .eq (BitVec.ofNat 32 (i 0).val) 0#32)) 0#32 = 1#1

/-- The body's second branch is taken: the point writes the result. -/
abbrev Finishes (i : grid0.Coords) : Prop := k0_cond2 i = 1#1

/-- What the accumulator holds after a point that found `acc` in it: `acc` plus the block's segment sums. -/
def step (i : grid0.Coords) (x : Vec F S8192x128 .f32) (ids : Vec F S1x1x8192 .i32) (w1 : Vec F S128x64 .f32)
    (b1 : Vec F S1x64 .f32) (w2 : Vec F S64x1 .f32) (acc : Vec F S2x512 .f32) : Vec F S2x512 .f32 :=
  k0_pay1 (k0_pay4 i x w1 b1 w2) (k0_pay5 ids) acc (constant S2x512 .f32 0x00000000#32)

/-- The accumulator as the point's additions find it: cleared at the first point, as left by the point before elsewhere. -/
def start (i : grid0.Coords) (acc : Vec F S2x512 .f32) : Vec F S2x512 .f32 :=
  open Classical in if Clears i then k0_pay3 else acc

/-- The result of one accumulator: its row of sums plus the bias times its row of counts, over the counts (at least one). -/
def quotient (acc : Vec F S2x512 .f32) (b2 : Vec F S1x1 .f32) : Vec F S1x512 .f32 :=
  k0_pay2 (VecWindow.window acc ![0, 0] S1x512.size inb_S2x512_S1x512_0_0)
    (VecWindow.window acc ![1, 0] S1x512.size inb_S2x512_S1x512_1_0) b2

/-- The output block after a point: the quotient of the accumulator at the last point, untouched elsewhere. -/
def finish (i : grid0.Coords) (out : Vec F S1x512 .f32) (b2 : Vec F S1x1 .f32) (acc : Vec F S2x512 .f32) : Vec F S1x512 .f32 :=
  open Classical in if Finishes i then quotient acc b2 else out

/-- `step` at loads that read the values. -/
theorem step_of_reads (i : grid0.Coords) {x x' : Vec F S8192x128 .f32} {ids ids' : Vec F S1x1x8192 .i32} {w1 w1' : Vec F S128x64 .f32}
    {b1 b1' : Vec F S1x64 .f32} {w2 w2' : Vec F S64x1 .f32} {acc acc' : Vec F S2x512 .f32} (hx : x' = x) (hids : ids' = ids)
    (hw1 : w1' = w1) (hb1 : b1' = b1) (hw2 : w2' = w2) (hacc : acc' = acc) :
    k0_pay1 (k0_pay4 i x' w1' b1' w2') (k0_pay5 ids') acc' (constant S2x512 .f32 0x00000000#32) = step i x ids w1 b1 w2 acc := by
  subst hx hids hw1 hb1 hw2 hacc; rfl

/-- The quotient at loads that read the accumulator's rows. -/
theorem quotient_of_reads {acc : Vec F S2x512 .f32} {b2 b2' : Vec F S1x1 .f32} {s n : Vec F S1x512 .f32}
    (hs : s = VecWindow.window acc ![0, 0] S1x512.size inb_S2x512_S1x512_0_0)
    (hn : n = VecWindow.window acc ![1, 0] S1x512.size inb_S2x512_S1x512_1_0) (hb2 : b2' = b2) :
    k0_pay2 s n b2' = quotient acc b2 := by
  subst hs hn hb2; rfl

/-- A load of a whole buffer reads its contents. -/
theorem readAt_whole {s : Shape} {e : EltTy} {sp : Space} {a : Memref sig .tc sp s e} (h : a.IsWhole) (X : s.Idx → Elt F e)
    {off : Fin s.rank → ℕ} (inb : ∀ k, off k + s.size k ≤ s.size k) :
    a.view.readAt (Elt F) (Rect.unit off s.size inb).toLoadRect (h.unread X) = X :=
  (View.readAt_full _ _ inb).trans (h.read_unread X)

set_option maxHeartbeats 1000000 in
/-- The body at one grid point, on whole buffers: the inputs are handed back as found, the accumulator is started and
    stepped, and the output block is finished. -/
theorem run (c : Dev nD) (i : grid0.Coords)
    (arg1 : Memref sig .tc .vmem S8192x128 .f32) (harg1 : arg1.IsWhole) (arg2 : Memref sig .tc .vmem S1x1x8192 .i32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S64x1 .f32) (harg5 : arg5.IsWhole) (arg6 : Memref sig .tc .vmem S1x1 .f32) (harg6 : arg6.IsWhole)
    (arg7 : Memref sig .tc .vmem S1x512 .f32) (harg7 : arg7.IsWhole) (arg8 : Memref sig .tc .vmem S2x512 .f32) (harg8 : arg8.IsWhole)
    (x : Vec F S8192x128 .f32) (ids : Vec F S1x1x8192 .i32) (w1 : Vec F S128x64 .f32) (b1 : Vec F S1x64 .f32)
    (w2 : Vec F S64x1 .f32) (b2 : Vec F S1x1 .f32) (out : Vec F S1x512 .f32) (acc : Vec F S2x512 .f32)
    (E : Set ℕ) (K : PUnit → sProp 𝕄) :
    iprop(owns (c : Thread nD τ) arg1 fullShare x ∗ owns (c : Thread nD τ) arg2 fullShare ids ∗ owns (c : Thread nD τ) arg3 fullShare w1
        ∗ owns (c : Thread nD τ) arg4 fullShare b1 ∗ owns (c : Thread nD τ) arg5 fullShare w2 ∗ owns (c : Thread nD τ) arg6 fullShare b2
        ∗ owns (c : Thread nD τ) arg7 fullShare out ∗ owns (c : Thread nD τ) arg8 fullShare acc
        ∗ (iprop(owns (c : Thread nD τ) arg1 fullShare x ∗ owns (c : Thread nD τ) arg2 fullShare ids ∗ owns (c : Thread nD τ) arg3 fullShare w1
            ∗ owns (c : Thread nD τ) arg4 fullShare b1 ∗ owns (c : Thread nD τ) arg5 fullShare w2 ∗ owns (c : Thread nD τ) arg6 fullShare b2
            ∗ owns (c : Thread nD τ) arg7 fullShare (finish i out b2 (step i x ids w1 b1 w2 (start i acc)))
            ∗ owns (c : Thread nD τ) arg8 fullShare (step i x ids w1 b1 w2 (start i acc))) -∗ K ⟨⟩))
      ⊢ wp frame (wpE (defs₀ (F := F)) Variants.none c none) E
          (cc0__tc_body i arg1 harg1 arg2 harg2 arg3 harg3 arg4 harg4 arg5 harg5 arg6 harg6 arg7 harg7 arg8 harg8) K := by
  simp only [cc0__tc_body_eq_skeleton]; unfold cc0__tc_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  by_cases hc0 : Clears i <;> by_cases hc1 : Finishes i
  all_goals
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr
      swap
      · iexact H6
      ipureintro
      first
      | exact (harg7.read_unread _).trans (if_neg hc1).symm
      | refine Eq.trans ?_ (if_pos hc1).symm
        refine (View.read_writes_full _ _ _ _ _).trans ?_
        refine quotient_of_reads (acc := step i x ids w1 b1 w2 (start i acc)) ?_ ?_ (readAt_whole harg6 _ _)
        all_goals
          refine (View.readAt_unit _ _ _ rfl _).trans (congrArg (VecWindow.window · _ _ _) ?_)
          refine (View.read_writes_full _ _ _ _ _).trans (step_of_reads i (readAt_whole harg1 _ _) (readAt_whole harg2 _ _)
            (readAt_whole harg3 _ _) (readAt_whole harg4 _ _) (readAt_whole harg5 _ _) ?_)
          first
          | exact (readAt_whole harg8 _ _).trans (if_neg hc0).symm
          | exact (View.readCov_full _ _ _ _ _).trans (if_pos hc0).symm
    iexists _; isplitr
    swap
    · iexact H7
    ipureintro
    refine (View.read_writes_full _ _ _ _ _).trans (step_of_reads i (readAt_whole harg1 _ _) (readAt_whole harg2 _ _)
      (readAt_whole harg3 _ _) (readAt_whole harg4 _ _) (readAt_whole harg5 _ _) ?_)
    first
    | exact (readAt_whole harg8 _ _).trans (if_neg hc0).symm
    | exact (View.readCov_full _ _ _ _ _).trans (if_pos hc0).symm

end Cert.KernelIdeal.Body

end
-- ==== Proof.Spec.lean ====
/-
  The mathematics both programs compute, over the extended reals, and the one equation between them. Nothing here
  names a program.
-/
module

public import Idealize.ShloMosaic.PureOps.Ideal

@[expose] public section

noncomputable section

namespace Cert.Proof.Spec

open Idealize.ShloMosaic
open scoped BigOperators

/-- Unit `j` of the hidden layer at one node's features. -/
def hidden (x : Fin 128 → EReal) (w1 : Fin 128 → Fin 64 → EReal) (b1 : Fin 64 → EReal) (j : Fin 64) : EReal :=
  ∑ k, x k * w1 k j + b1 j

/-- One node's score without the last bias: the hidden units, each times its logistic, weighed by the last layer. -/
def score (x : Fin 128 → EReal) (w1 : Fin 128 → Fin 64 → EReal) (b1 w2 : Fin 64 → EReal) : EReal :=
  ∑ j, hidden x w1 b1 j * Ideal.logistic (hidden x w1 b1 j) * w2 j

/-- A function of the nodes as a function of all numbers, zero past the last node. -/
def padded (N : ℕ) (f : Fin N → EReal) (n : ℕ) : EReal := if h : n < N then f ⟨n, h⟩ else 0

/-- A sum over more numbers than there are nodes is the sum over the nodes. -/
theorem sum_padded (N M : ℕ) (f : Fin N → EReal) : ∑ n ∈ Finset.range (N + M), padded N f n = ∑ n, f n := by
  rw [Finset.sum_range_add, Finset.sum_range]
  rw [Finset.sum_eq_zero (s := Finset.range M) fun n _ => dif_neg (by omega), add_zero]
  exact Finset.sum_congr rfl fun n _ => dif_pos n.isLt

/-- A sum over the first `t + 1` blocks of `B` numbers is the sum over the first `t` and that over the last. -/
theorem sum_next_block (B t : ℕ) (f : ℕ → EReal) :
    ∑ n ∈ Finset.range ((t + 1) * B), f n = ∑ n ∈ Finset.range (t * B), f n + ∑ r : Fin B, f (t * B + r.val) := by
  rw [Nat.succ_mul, Finset.sum_range_add, Finset.sum_range (n := B)]

/-- The sum over the nodes of segment `s` (`p n`: node `n` is in it). -/
def segment {N : ℕ} (p : Fin N → Prop) [DecidablePred p] (f : Fin N → EReal) : EReal := ∑ n, if p n then f n else 0

/-- Adding a constant to every node of a segment adds it as often as the segment has nodes, also at infinite values. -/
theorem segment_add_const {N : ℕ} (p : Fin N → Prop) [DecidablePred p] (f : Fin N → EReal) (b : EReal) :
    segment p (fun n => f n + b) = segment p f + b * segment p fun _ => 1 := by
  have key : ∀ S : Finset (Fin N), b * (∑ n ∈ S, if p n then (1 : EReal) else 0) = ∑ n ∈ S, if p n then b else 0 := by
    intro S
    induction S using Finset.induction_on with
    | empty => simp
    | insert a S ha ih =>
      rw [Finset.sum_insert ha, Finset.sum_insert ha, EReal.left_distrib_of_nonneg, ih]
      · split <;> simp
      · split <;> simp
      · exact Finset.sum_nonneg fun n _ => by split <;> simp
  unfold segment
  rw [key, ← Finset.sum_add_distrib]
  refine Finset.sum_congr rfl fun n _ => ?_
  split <;> simp

/-- The mean's denominator: the segment's number of nodes, at least one. -/
def size {N : ℕ} (p : Fin N → Prop) [DecidablePred p] : EReal := max (segment p fun _ => 1) 1

end Cert.Proof.Spec

end
-- ==== Proof.Block.lean ====
/-
  What one block's computation gives, element by element over the extended reals: the two columns of per-row values,
  the one-hot table of segment numbers, the accumulator after a block, and the final quotient. The rows past the last
  node are masked, so what a block holds there does not matter.
-/
module

public import proofs.«01_k».proof.Proof.IdealBody
public import proofs.«01_k».proof.Proof.Spec
public import Idealize.ShloMosaic.Lib.Pointwise
public import Idealize.ShloMosaic.Lib.WordCmp

@[expose] public section

set_option maxRecDepth 16384

noncomputable section

namespace Cert.KernelIdeal.Block

open Cert.KernelIdeal Cert.KernelIdeal.Gen Cert.KernelIdeal.Body Cert.Proof.Spec
open Idealize.ShloMosaic
open scoped BigOperators

variable (i : grid0.Coords) (x : Vec Ideal S8192x128 .f32) (ids : Vec Ideal S1x1x8192 .i32) (w1 : Vec Ideal S128x64 .f32)
  (b1 : Vec Ideal S1x64 .f32) (w2 : Vec Ideal S64x1 .f32) (acc : Vec Ideal S2x512 .f32) (b2 : Vec Ideal S1x1 .f32)

/-- The mask's bit at row `r` of block `i`: the row is a node's. -/
theorem mask_bit (r : Fin 8192) (h : (i 0).val < 13) :
    IntOp.cmpi CmpIPredicate.slt (IntOp.addi (Scalar.muli (BitVec.ofNat 32 (i 0).val) 8192#32) (BitVec.ofNat 32 r.val)) 100000#32 = 1#1
      ↔ (i 0).val * 8192 + r.val < 100000 := by
  have hr := r.isLt
  generalize (i 0).val = t at h ⊢
  have e : IntOp.addi (Scalar.muli (BitVec.ofNat 32 t) 8192#32) (BitVec.ofNat 32 r.val) = BitVec.ofNat 32 (t * 8192 + r.val) := by
    simp [IntOp.addi, Scalar.muli, IntOp.muli, BitVec.ofNat_add, BitVec.ofNat_mul]
  rw [e]
  generalize hn : t * 8192 + r.val = n
  have : n < 106496 := by omega
  word_cmp

/-- A select on the mask's bit is a choice by the row's number. -/
theorem select_mask (r : Fin 8192) (h : (i 0).val < 13) (a b : EReal) :
    Scalar.select (IntOp.cmpi CmpIPredicate.slt (IntOp.addi (Scalar.muli (BitVec.ofNat 32 (i 0).val) 8192#32) (BitVec.ofNat 32 r.val)) 100000#32) a b
      = if (i 0).val * 8192 + r.val < 100000 then a else b := by
  unfold Scalar.select
  exact if_congr (mask_bit i r h) rfl rfl

/-- The first column: a node's score, zero past the last node. -/
theorem pay4_score (r : Fin 8192) (h : (i 0).val < 13) :
    k0_pay4 (F := Ideal) i x w1 b1 w2 (ix2 r (0 : Fin 2)) = if (i 0).val * 8192 + r.val < 100000
      then score (fun k => x (ix2 r k)) (fun k j => w1 (ix2 k j)) (fun j => b1 (ix2 0 j)) (fun j => w2 (ix2 j 0)) else 0 := by
  pointwise [k0_pay4]
  exact select_mask i r h _ _

/-- The second column: one, zero past the last node. -/
theorem pay4_one (r : Fin 8192) (h : (i 0).val < 13) :
    k0_pay4 (F := Ideal) i x w1 b1 w2 (ix2 r (1 : Fin 2)) = if (i 0).val * 8192 + r.val < 100000 then 1 else 0 := by
  pointwise [k0_pay4]
  exact select_mask i r h _ _

/-- The one-hot table: one where the row's segment number is the column's. -/
theorem pay5_apply (r : Fin 8192) (s : Fin 512) :
    k0_pay5 (F := Ideal) ids (ix2 r s) = if ids (ix3 0 0 r) = BitVec.ofNat 32 s.val then 1 else 0 := by
  pointwise [k0_pay5]
  generalize ids (ix3 0 0 r) = b
  have e : IntOp.cmpi .eq b (BitVec.ofNat 32 s.val) = if b = BitVec.ofNat 32 s.val then 1#1 else 0#1 := by
    by_cases hb : b = BitVec.ofNat 32 s.val
    · rw [if_pos hb, hb]; simp [IntOp.cmpi]
    · rw [if_neg hb]; simp only [IntOp.cmpi, beq_false_of_ne hb]; rfl
  rw [e]
  split <;> simp [FloatOps.sitofp]

/-- The accumulator after a block, at an element. -/
theorem step_apply (a : Fin 2) (s : Fin 512) :
    step (F := Ideal) i x ids w1 b1 w2 acc (ix2 a s)
      = acc (ix2 a s) + ∑ r : Fin 8192, k0_pay4 (F := Ideal) i x w1 b1 w2 (ix2 r a) * k0_pay5 (F := Ideal) ids (ix2 r s) := by
  unfold step
  pointwise [k0_pay1]

/-- The row of sums after a block. -/
theorem step_score (s : Fin 512) (h : (i 0).val < 13) :
    step (F := Ideal) i x ids w1 b1 w2 acc (ix2 0 s) = acc (ix2 0 s) + ∑ r : Fin 8192,
      if (i 0).val * 8192 + r.val < 100000 ∧ ids (ix3 0 0 r) = BitVec.ofNat 32 s.val
      then score (fun k => x (ix2 r k)) (fun k j => w1 (ix2 k j)) (fun j => b1 (ix2 0 j)) (fun j => w2 (ix2 j 0)) else 0 := by
  rw [step_apply]
  refine congrArg _ (Finset.sum_congr rfl fun r _ => ?_)
  rw [pay4_score i x w1 b1 w2 r h, pay5_apply, ite_and]
  split <;> split <;> simp

/-- The row of counts after a block. -/
theorem step_one (s : Fin 512) (h : (i 0).val < 13) :
    step (F := Ideal) i x ids w1 b1 w2 acc (ix2 1 s) = acc (ix2 1 s) + ∑ r : Fin 8192,
      if (i 0).val * 8192 + r.val < 100000 ∧ ids (ix3 0 0 r) = BitVec.ofNat 32 s.val then 1 else 0 := by
  rw [step_apply]
  refine congrArg _ (Finset.sum_congr rfl fun r _ => ?_)
  rw [pay4_one i x w1 b1 w2 r h, pay5_apply, ite_and]
  split <;> split <;> simp

/-- Blocks that agree on the nodes' rows leave the accumulator alike. -/
theorem step_congr (x' : Vec Ideal S8192x128 .f32) (h : (i 0).val < 13)
    (hx : ∀ r : Fin 8192, (i 0).val * 8192 + r.val < 100000 → ∀ k : Fin 128, x (ix2 r k) = x' (ix2 r k)) :
    step (F := Ideal) i x ids w1 b1 w2 acc = step i x' ids w1 b1 w2 acc := by
  have hscore : ∀ r : Fin 8192, k0_pay4 (F := Ideal) i x w1 b1 w2 (ix2 r (0 : Fin 2)) = k0_pay4 (F := Ideal) i x' w1 b1 w2 (ix2 r (0 : Fin 2)) := by
    intro r
    rw [pay4_score i x w1 b1 w2 r h, pay4_score i x' w1 b1 w2 r h]
    split
    · next hr => exact congrArg (fun f => score f _ _ _) (funext fun k => hx r hr k)
    · rfl
  have hcol : ∀ (a : Fin 2) (s : Fin 512), step (F := Ideal) i x ids w1 b1 w2 acc (ix2 a s) = step (F := Ideal) i x' ids w1 b1 w2 acc (ix2 a s) := by
    intro a s
    rw [step_apply, step_apply]
    refine congrArg _ (Finset.sum_congr rfl fun r _ => congrArg (· * _) ?_)
    match a with
    | ⟨0, _⟩ => exact hscore r
    | ⟨1, _⟩ => exact (pay4_one i x w1 b1 w2 r h).trans (pay4_one i x' w1 b1 w2 r h).symm
  funext y
  have e : y = ix2 (y 0) (y 1) := ValueIdx.eq_ix2 y
  rw [e]
  exact hcol _ _

/-- The result at a segment: its sum plus the bias times its count, over its count or one. -/
theorem quotient_apply (s : Fin 512) :
    quotient (F := Ideal) acc b2 (ix2 (0 : Fin 1) s)
      = Ideal.div (acc (ix2 0 s) + b2 (ix2 0 0) * acc (ix2 1 s)) (max (acc (ix2 1 s)) 1) := by
  have h0 : ∀ q : Fin 2, ∀ inb : ∀ a, (![q.val, 0] : Fin 2 → ℕ) a + S1x512.size a ≤ S2x512.size a,
      VecWindow.window acc ![q.val, 0] S1x512.size inb (ix2 (0 : Fin 1) s) = acc (ix2 q s) := fun q inb => by
    refine congrArg acc (funext fun a => Fin.ext ?_)
    match a with
    | ⟨0, _⟩ => simp [Rect.emb_apply]
    | ⟨1, _⟩ => simp [Rect.emb_apply]
  unfold quotient
  pointwise [k0_pay2]
  have e0 := h0 0 inb_S2x512_S1x512_0_0
  have e1 := h0 1 inb_S2x512_S1x512_1_0
  exact congrArg₂ Ideal.div (congrArg₂ (· + ·) e0 (congrArg _ e1)) (congrArg (max · 1) e1)

/-- The cleared accumulator is zero. -/
theorem cleared_apply (y : S2x512.Idx) : k0_pay3 (F := Ideal) y = 0 := by
  pointwise [k0_pay3]

end Cert.KernelIdeal.Block

end
-- ==== Proof.Blocks.lean ====
/-
  What the blocks of each grid point hold, read off the program's arguments: point `t` sees the nodes numbered from
  `8192 t` on, their segment numbers, and the layers' weights and biases whole.
-/
module

public import proofs.«01_k».proof.Proof.Block
public import proofs.«01_k».proof.Proof.Gen.KernelIdeal.Frame
public import Idealize.ShloMosaic.Lib.Claim
public import Idealize.ShloMosaic.Lib.Pipeline.ValueKit.Point

@[expose] public section

set_option maxRecDepth 16384

noncomputable section

namespace Cert.KernelIdeal.Blocks

open Cert.KernelIdeal Cert.KernelIdeal.Gen
open Idealize.ShloMosaic Idealize.ShloMosaic.TcCoe
open Idealize.SL.Sem

variable (m : (ℓ : Loc nD τ sig) → Buf (Elt Ideal) ℓ) (c : Dev nD)

/-- A point's one coordinate is its number. -/
theorem coord (t : Fin cfg0.N) : (grid0.coords t 0).val = t.val := by
  have ht : t.val < 13 := Nat.lt_of_lt_of_eq t.isLt N_0
  have e : (grid0.coords t 0).val = t.val / 1 % 13 := Pipeline.Grid.coords_val t 0 (by decide) rfl
  omega

/-- The node rows' block at point `t` is the `t`-th. -/
theorem index_0 (t : Fin cfg0.N) : win0_0.index t = ![t.val, 0] := by
  have ht : t.val < 13 := Nat.lt_of_lt_of_eq t.isLt N_0
  have e : cc0_transform_0 (grid0.coords t) = ![t.val, 0] := by
    unfold cc0_transform_0
    rw [coord]
    simp only [BitVec.toNat_ofNat]
    rw [Nat.mod_eq_of_lt (by omega)]
  exact e

/-- The segment numbers' block at point `t` is the `t`-th. -/
theorem index_1 (t : Fin cfg0.N) : win0_1.index t = ![t.val, 0, 0] := by
  have ht : t.val < 13 := Nat.lt_of_lt_of_eq t.isLt N_0
  have e : cc0_transform_1 (grid0.coords t) = ![t.val, 0, 0] := by
    unfold cc0_transform_1
    rw [coord]
    simp only [BitVec.toNat_ofNat]
    rw [Nat.mod_eq_of_lt (by omega)]
  exact e

/-- The other windows' one block is the whole array. -/
theorem index_2 (t : Fin cfg0.N) : win0_2.index t = ![0, 0] := rfl
theorem index_3 (t : Fin cfg0.N) : win0_3.index t = ![0, 0] := rfl
theorem index_4 (t : Fin cfg0.N) : win0_4.index t = ![0, 0] := rfl
theorem index_5 (t : Fin cfg0.N) : win0_5.index t = ![0, 0] := rfl

/-- The segment numbers as the region finds them: the argument's, then 512 on the rows past the last node, in blocks. -/
theorem V_ids : V m c main_v2 = shapeCast S13x1x8192 (concatenate S106496 0 [⟨S100000, m ((c : Thread nD τ).loc main_arg1)⟩,
    ⟨S6496, broadcastInDim S6496 ![] bcast_S_S6496 (constantI S_ 32 512#32)⟩] concatenates_S100000_S6496_S106496_d0)
    shapeCasts_S106496_S13x1x8192 := by
  show StableHlo.after (List.flatten [hostOps0]) (fun b => m (c, b)) _ = _
  simp only [hostOps0, List.flatten_cons, List.flatten_nil, List.append_nil, List.nil_append, List.cons_append]
  after_results_simp <;> rfl

/-- The hidden layer's bias as the region finds it: the argument's, as one row. -/
theorem V_b1 : V m c main_v3 = shapeCast S1x64 (m ((c : Thread nD τ).loc main_arg3)) shapeCasts_S64_S1x64 := by
  show StableHlo.after (List.flatten [hostOps0]) (fun b => m (c, b)) _ = _
  simp only [hostOps0, List.flatten_cons, List.flatten_nil, List.append_nil, List.nil_append, List.cons_append]
  after_results_simp <;> rfl

/-- The last bias as the region finds it: the argument's, as one entry. -/
theorem V_b2 : V m c main_v4 = shapeCast S1x1 (m ((c : Thread nD τ).loc main_arg5)) shapeCasts_S1_S1x1 := by
  show StableHlo.after (List.flatten [hostOps0]) (fun b => m (c, b)) _ = _
  simp only [hostOps0, List.flatten_cons, List.flatten_nil, List.append_nil, List.nil_append, List.cons_append]
  after_results_simp <;> rfl

/-- At every point the hidden layer's weights are the argument's. -/
theorem w1_read (t : Fin cfg0.N) (k : Fin 128) (j : Fin 64) :
    iblk m c 2 t (ix2 k j) = m ((c : Thread nD τ).loc main_arg2) (ix2 k j) := by
  blk_ext [iblk, V_main_arg2, index_2]

/-- At every point the last layer's weights are the argument's. -/
theorem w2_read (t : Fin cfg0.N) (j : Fin 64) :
    iblk m c 4 t (ix2 j 0) = m ((c : Thread nD τ).loc main_arg4) (ix2 j 0) := by
  blk_ext [iblk, V_main_arg4, index_4]

/-- Row `r` of point `t`'s segment numbers is node `t * 8192 + r`'s. -/
theorem ids_read (t : Fin cfg0.N) (r : Fin 8192) (h : t.val * 8192 + r.val < 100000) :
    iblk m c 1 t (ix3 0 0 r) = m ((c : Thread nD τ).loc main_arg1) (ix1 ⟨t.val * 8192 + r.val, h⟩) := by
  have ht : t.val < 13 := Nat.lt_of_lt_of_eq t.isLt N_0
  have e : iblk m c 1 t (ix3 0 0 r) = V m c main_v2 (ix3 ⟨t.val, ht⟩ 0 r) := by
    blk_ext [iblk, index_1]
  rw [e, V_ids]
  pointwise
  exact dif_pos h

/-- At every point the hidden layer's bias is the argument's. -/
theorem b1_read (t : Fin cfg0.N) (j : Fin 64) :
    iblk m c 3 t (ix2 0 j) = m ((c : Thread nD τ).loc main_arg3) (ix1 j) := by
  have e : iblk m c 3 t (ix2 0 j) = V m c main_v3 (ix2 0 j) := by
    blk_ext [iblk, index_3]
  rw [e, V_b1]
  pointwise

/-- At every point the last bias is the argument's. -/
theorem b2_read (t : Fin cfg0.N) :
    iblk m c 5 t (ix2 0 0) = m ((c : Thread nD τ).loc main_arg5) (ix1 0) := by
  have e : iblk m c 5 t (ix2 0 0) = V m c main_v4 (ix2 0 0) := by
    blk_ext [iblk, index_5]
  rw [e, V_b2]
  pointwise

/-- Row `r` of point `t`'s node features is node `t * 8192 + r`'s, whatever fills the block past the last node. -/
theorem row_read (t : Fin cfg0.N) (d : Vec Ideal S8192x128 .f32) (r : Fin 8192) (k : Fin 128) (h : t.val * 8192 + r.val < 100000) :
    win0_0.fill (grid0.coords t) d (iblk m c 0 t) (ix2 r k) = m ((c : Thread nD τ).loc main_arg0) (ix2 ⟨t.val * 8192 + r.val, h⟩ k) := by
  have hm : win0_0.moved (grid0.coords t) (ix2 r k) = true := by
    rw [win0_0.moved_iff]
    intro a
    show _ < (Pipeline.Clip.of (win0_0.index t a) (S8192x128.size a) (S100000x128.size a)).extent (S8192x128.size a)
    rw [index_0]
    match a with
    | ⟨0, _⟩ =>
      show r.val < (Pipeline.Clip.of t.val 8192 100000).extent 8192
      have := r.isLt
      unfold Pipeline.Clip.of
      split
      · exact r.isLt
      · show r.val < 100000 - t.val * 8192
        omega
    | ⟨1, _⟩ => exact k.isLt
  unfold Pipeline.Window.fill
  rw [dif_pos hm]
  rw [← V_main_arg0 m c]
  blk_ext [iblk, index_0]

end Cert.KernelIdeal.Blocks

end
-- ==== Proof.IdealRun.lean ====
/-
  The launch of the program at exact values: the accumulator is followed from point to point, so that what the run
  leaves in the result is named; with it the frame.
-/
module

public import proofs.«01_k».proof.Proof.Blocks
public import proofs.«01_k».proof.Proof.Gen.KernelIdeal.Frame
public import Idealize.ShloMosaic.Lib.Pipeline.FrameSuffix

@[expose] public section

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-- A word to name where nothing reads. -/
abbrev filler {s : Shape} : s.Idx → Elt Ideal .f32 := fun _ => (0 : EReal)

/-- Node rows' block at point `t`, filled out past the array's end. -/
abbrev rows (c : Dev nD) (t : Fin cfg0.N) : Vec Ideal S8192x128 .f32 := win0_0.fill (grid0.coords t) filler (iblk m c 0 t)

/-- The accumulator after the first `n` points: zero, then one block's segment sums added at each. -/
def accAt (c : Dev nD) : ℕ → Vec Ideal S2x512 .f32
  | 0 => k0_pay3 (F := Ideal)
  | n + 1 => if h : n < cfg0.N then step (F := Ideal) (grid0.coords ⟨n, h⟩) (rows m c ⟨n, h⟩) (iblk m c 1 ⟨n, h⟩) (iblk m c 2 ⟨n, h⟩)
      (iblk m c 3 ⟨n, h⟩) (iblk m c 4 ⟨n, h⟩) (accAt c n) else accAt c n

/-- Each point takes one step from the accumulator before it. -/
theorem accAt_succ (c : Dev nD) (t : Fin cfg0.N) : accAt m c (t.val + 1) = step (F := Ideal) (grid0.coords t) (rows m c t) (iblk m c 1 t) (iblk m c 2 t)
    (iblk m c 3 t) (iblk m c 4 t) (accAt m c t.val) := dif_pos t.isLt

/-- The invariant before point `n`: the accumulator as the points so far left it (before the first, at anything), and
    the generator's register at some state. -/
def inv (c : Dev nD) (n : ℕ) : sProp 𝕄 :=
  iprop((∃ d : Vec Ideal S2x512 .f32, ⌜n ≠ 0 → d = accAt m c n⌝ ∗ owns (c : Thread nD τ) (Memref.whole cc0_scratch0) fullShare d) ∗ (∃ r, prngReg c r))

/-- The pipeline's data on core `c`: the arrays as the region finds them; after each point the input buffers at their
    blocks, the output's at the quotient of the accumulator so far (stated for the point that writes it back). -/
def dats (_ : Fin 1) (c : Dev nD) : Dat τ (Elt Ideal) Unit ℕ (UR sig nD τ) ℕ cfg0 c where
  A w := V m c (Pipeline.arrRef spec0 w)
  after w t := match w with
    | ⟨0, _⟩ => rows m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => quotient (F := Ideal) (accAt m c (t.val + 1)) (iblk m c 5 t)
  Φ t := inv m c t.val
  q _ := fullShare
  owed _ := 0

/-- The data's arrays are those the region finds. -/
theorem A_eq (c : Dev nD) (w : Fin cfg0.W) : (dats m 0 c).A w = V m c (Pipeline.arrRef spec0 w) := by
  dsimp only [dats]

/-- Each point fetches the clipped window: its buffer holds its block inside the array and anything past it. -/
theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) : (dats m 0 c).before 1 t d = iblk m c 1 t :=
  before0_1_of m _ (A_eq m c 1) (fun _ => by dsimp only [dats]) t d
theorem before_2 (c : Dev nD) (t : Fin cfg0.N) (d) : (dats m 0 c).before 2 t d = iblk m c 2 t :=
  before0_2_of m _ (A_eq m c 2) (fun _ => by dsimp only [dats]) t d
theorem before_3 (c : Dev nD) (t : Fin cfg0.N) (d) : (dats m 0 c).before 3 t d = iblk m c 3 t :=
  before0_3_of m _ (A_eq m c 3) (fun _ => by dsimp only [dats]) t d
theorem before_4 (c : Dev nD) (t : Fin cfg0.N) (d) : (dats m 0 c).before 4 t d = iblk m c 4 t :=
  before0_4_of m _ (A_eq m c 4) (fun _ => by dsimp only [dats]) t d
theorem before_5 (c : Dev nD) (t : Fin cfg0.N) (d) : (dats m 0 c).before 5 t d = iblk m c 5 t :=
  before0_5_of m _ (A_eq m c 5) (fun _ => by dsimp only [dats]) t d

/-- What the launch hands over: the accumulator at some contents and the generator's register at some state. -/
theorem inv_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]

/-- The body clears the accumulator at the first point. -/
theorem clears_iff (t : Fin cfg0.N) : Clears (grid0.coords t) ↔ t.val = 0 := by
  have ht : t.val < 13 := Nat.lt_of_lt_of_eq t.isLt N_0
  unfold Clears
  rw [Blocks.coord]
  word_cmp

/-- The body writes the result at the last point. -/
theorem finishes_iff (t : Fin cfg0.N) : Finishes (grid0.coords t) ↔ t.val = 12 := by
  have ht : t.val < 13 := Nat.lt_of_lt_of_eq t.isLt N_0
  unfold Finishes k0_cond2
  rw [Blocks.coord]
  word_cmp

/-- The output's window is idle at every point but the last, the one that writes it back. -/
theorem idle_6 : ∀ t : Fin cfg0.N, cfg0.idle 6 (grid0.coords t) = decide (t.val ≠ 12) := by decide +kernel
theorem flush_6 : ∀ t : Fin cfg0.N, (cfg0.win 6).flush t = decide (t.val = 12) := by decide +kernel

/-- The accumulator after point `t`, from the one the invariant hands the point and any words past the node rows' end. -/
theorem step_eq (c : Dev nD) (t : Fin cfg0.N) (acc : Vec Ideal S2x512 .f32) (h : t.val ≠ 0 → acc = accAt m c t.val)
    (d : Vec Ideal S8192x128 .f32) :
    step (F := Ideal) (grid0.coords t) (win0_0.fill (grid0.coords t) d (iblk m c 0 t)) (iblk m c 1 t) (iblk m c 2 t) (iblk m c 3 t) (iblk m c 4 t)
      (start (F := Ideal) (grid0.coords t) acc) = accAt m c (t.val + 1) := by
  have hs : start (F := Ideal) (grid0.coords t) acc = accAt m c t.val := by
    unfold start
    by_cases ht : t.val = 0
    · rw [if_pos ((clears_iff t).mpr ht), ht]; rfl
    · rw [if_neg fun hc => ht ((clears_iff t).mp hc)]; exact h ht
  rw [hs, accAt_succ]
  have ht : (grid0.coords t 0).val < 13 := by rw [Blocks.coord]; exact Nat.lt_of_lt_of_eq t.isLt N_0
  refine Block.step_congr _ _ _ _ _ _ _ _ ht fun r hr k => ?_
  rw [Blocks.coord] at hr
  exact (Blocks.row_read m c t d r k hr).trans (Blocks.row_read m c t filler r k hr).symm

/-- What the body leaves in the output's buffer is what the pipeline takes back. -/
theorem leaves_6 (c : Dev nD) (t : Fin cfg0.N) (d) (acc : Vec Ideal S2x512 .f32) (h : acc = accAt m c (t.val + 1)) :
    owns (c : Thread nD τ) (st0_6 t) fullShare (finish (F := Ideal) (grid0.coords t) ((dats m 0 c).before 6 t d) (iblk m c 5 t) acc)
      ⊢ ((dats m 0 c).leavesExact 6 t : sProp 𝕄) := by
  unfold finish
  by_cases ht : t.val = 12
  · rw [if_pos ((finishes_iff t).mpr ht), h]
    have e : (dats m 0 c).leavesExact 6 t = owns (c : Thread nD τ) (st0_6 t) fullShare ((dats m 0 c).after 6 t) := by
      unfold Dat.leavesExact; rw [show cfg0.idle 6 (cfg0.grid.coords t) = false from (idle_6 t).trans (by simp [ht])]
    rw [e]
    exact .rfl
  · rw [if_neg fun hc => ht ((finishes_iff t).mp hc)]
    rw [Dat.leavesExact_idle (dats m 0 c) 6 t ((idle_6 t).trans (by simp [ht])) ((flush_6 t).trans (by simp [ht]))]
    iintro H; iexists _; iexact H

/-- The body at point `t`, from what the pipeline hands it to what it takes back. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d)))
    ⊢ wp frame (wpE (defs₀ (F := Ideal)) Variants.none c none) Set.univ (bodyAt0 t) fun _ =>
    iprop((dats m 0 c).Φ t.succ ∗ (dats m 0 c).owesAt () t.succ
      ∗ (∃ d, owns (c : Thread nD τ) (st0_0 t) fullShare
          (win0_0.fill (grid0.coords t) d (win0_0.cut (grid0.coords t) (rows m c t))))
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare (iblk m c 4 t)
      ∗ owns (c : Thread nD τ) (st0_5 t) fullShare (iblk m c 5 t)
      ∗ (dats m 0 c).leavesExact 6 t) := by
  simp only [before_0, before_1, before_2, before_3, before_4, before_5]
  rw [show (dats m 0 c).owesAt () t.succ = (dats m 0 c).owesAt () t.castSucc from rfl,
    show (dats m 0 c).Φ t.castSucc = inv m c t.val from rfl, show (dats m 0 c).Φ t.succ = inv m c (t.val + 1) from rfl, win0_0.cut_fill]
  unfold inv
  iintro ⟨⟨⟨%acc, ⟨%hacc, H7⟩⟩, Hg⟩, Ho, ⟨%d0, H0⟩, ⟨%d1, H1⟩, ⟨%d2, H2⟩, ⟨%d3, H3⟩, ⟨%d4, H4⟩, ⟨%d5, H5⟩, ⟨%d6, H6⟩⟩
  iapply (run c (grid0.coords t) _ _ _ _ _ _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [H7 Hg]
  · isplitl [H7]
    · iexists _
      isplitr
      · ipureintro; exact fun _ => step_eq m c t acc hacc d0
      iexact H7
    iexact Hg
  isplitl [Ho]; · iexact Ho
  isplitl [H0]; · iexists _; iexact H0
  isplitl [H1]; · iexact H1
  isplitl [H2]; · iexact H2
  isplitl [H3]; · iexact H3
  isplitl [H4]; · iexact H4
  isplitl [H5]; · iexact H5
  iapply (leaves_6 m c t d6 _ (step_eq m c t acc hacc d0)) $$ H6

/-- The body table's row at a point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- The pipeline's obligation on the body. -/
theorem body_obligation (c : Dev nD) :
    BodyObligationLoose (dats m 0 c) (defs₀ (F := Ideal)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = inv m c 0 from rfl, inv_eq]
  unfold inv
  iintro ⟨⟨%d, H⟩, Hg⟩
  isplitl [H]
  · iexists d
    isplitr
    · ipureintro; exact fun h => absurd rfl h
    iexact H
  iexact Hg

/-- The invariant after the last point gives it back. -/
theorem hout (c : Dev nD) : (dats m 0 c).Φ (Fin.last cfg0.N) ⊢ Pipeline.ΦA spec0 c := by
  rw [show (dats m 0 c).Φ (Fin.last cfg0.N) = inv m c cfg0.N from rfl, inv_eq]
  unfold inv
  iintro ⟨⟨%d, ⟨-, H⟩⟩, Hg⟩
  isplitl [H]
  · iexists d; iexact H
  iexact Hg

set_option backward.isDefEq.respectTransparency.types false in
set_option maxHeartbeats 800000 in
/-- Every fair execution ends, with every array of the pipeline at what its points wrote back, every other buffer as the
    host lines leave it, and every semaphore counter at zero. -/
theorem run_main : θ_run defs (onTc (τ := τ) (main (F := Ideal))) ⟨m, fun _ => 0, ρ⟩ (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: every fair execution ends, with the arguments as they were and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_with_sems (Gen.frame_of m ρ (dats m) (A_eq m)) (run_main m ρ)

end Cert.KernelIdeal.Run

end
-- ==== Proof.Accumulator.lean ====
/-
  What the accumulator holds after the last point: in its first row every segment's sum of scores, in its second every
  segment's number of nodes.
-/
module

public import proofs.«01_k».proof.Proof.IdealRun
public import proofs.«01_k».proof.Proof.Spec

@[expose] public section

noncomputable section

namespace Cert.KernelIdeal.Accumulator

open Cert.KernelIdeal Cert.KernelIdeal.Gen Cert.KernelIdeal.Body Cert.KernelIdeal.Run
open Cert.Proof.Spec
open Idealize.ShloMosaic Idealize.ShloMosaic.TcCoe
open Idealize.SL.Sem

variable (m : (ℓ : Loc nD τ sig) → Buf (Elt Ideal) ℓ) (c : Dev nD)

/-- Node `n`'s score, of the argument arrays. -/
def nodeScore (n : Fin 100000) : EReal :=
  score (fun k => m ((c : Thread nD τ).loc main_arg0) (ix2 n k)) (fun k j => m ((c : Thread nD τ).loc main_arg2) (ix2 k j))
    (fun j => m ((c : Thread nD τ).loc main_arg3) (ix1 j)) (fun j => m ((c : Thread nD τ).loc main_arg4) (ix2 j 0))

/-- Node `n` lies in segment `s`. -/
def InSegment (s : Fin 512) (n : Fin 100000) : Prop := m ((c : Thread nD τ).loc main_arg1) (ix1 n) = BitVec.ofNat 32 s.val

/-- That is a comparison of words. -/
instance (s : Fin 512) : DecidablePred (InSegment m c s) := fun n =>
  inferInstanceAs (Decidable ((show BitVec 32 from m ((c : Thread nD τ).loc main_arg1) (ix1 n)) = BitVec.ofNat 32 s.val))

/-- If every point adds its block's nodes to one entry of the accumulator, the last leaves their sum in it. -/
theorem collect (e : S2x512.Idx) (f : Fin 100000 → EReal)
    (h : ∀ t : Fin cfg0.N, accAt m c (t.val + 1) e = accAt m c t.val e + ∑ r : Fin 8192, padded 100000 f (t.val * 8192 + r.val)) :
    accAt m c 13 e = ∑ n, f n := by
  have key : ∀ t : ℕ, t ≤ 13 → accAt m c t e = ∑ n ∈ Finset.range (t * 8192), padded 100000 f n := by
    intro t
    induction t with
    | zero =>
      intro _
      rw [Nat.zero_mul, Finset.sum_range_zero]
      exact Block.cleared_apply e
    | succ t ih =>
      intro ht
      rw [h ⟨t, Nat.lt_of_lt_of_eq (by omega) N_0.symm⟩, ih (by omega), sum_next_block]
  rw [key 13 le_rfl]
  exact sum_padded 100000 6496 f

/-- A row's addend in a block, read off the argument arrays. -/
theorem addend (s : Fin 512) (t : Fin cfg0.N) (r : Fin 8192) (v : EReal) (f : Fin 100000 → EReal)
    (hv : ∀ h : t.val * 8192 + r.val < 100000, v = f ⟨t.val * 8192 + r.val, h⟩) :
    (if t.val * 8192 + r.val < 100000 ∧ iblk m c 1 t (ix3 0 0 r) = BitVec.ofNat 32 s.val then v else 0)
      = padded 100000 (fun n => if InSegment m c s n then f n else 0) (t.val * 8192 + r.val) := by
  unfold padded
  by_cases h : t.val * 8192 + r.val < 100000
  · rw [dif_pos h, Blocks.ids_read m c t r h, hv h]
    exact if_congr (and_iff_right h) rfl rfl
  · rw [dif_neg h, if_neg fun hc => h hc.1]

/-- A point's number is below 13. -/
theorem coord_lt (t : Fin cfg0.N) : (grid0.coords t 0).val < 13 := by
  rw [Blocks.coord]; exact Nat.lt_of_lt_of_eq t.isLt N_0

/-- The first row after the last point: the segments' sums of scores. -/
theorem scores (s : Fin 512) : accAt m c 13 (ix2 0 s) = segment (InSegment m c s) (nodeScore m c) := by
  refine collect m c _ _ fun t => ?_
  rw [accAt_succ, Block.step_score _ _ _ _ _ _ _ s (coord_lt t), Blocks.coord]
  refine congrArg _ (Finset.sum_congr rfl fun r _ => addend m c s t r _ _ fun h => ?_)
  unfold nodeScore
  simp only [Blocks.w1_read, Blocks.b1_read, Blocks.w2_read]
  rw [show (fun k => rows m c t (ix2 r k)) = _ from funext fun k => Blocks.row_read m c t filler r k h]

/-- The second row after the last point: the segments' numbers of nodes. -/
theorem counts (s : Fin 512) : accAt m c 13 (ix2 1 s) = segment (InSegment m c s) fun _ => 1 := by
  refine collect m c _ _ fun t => ?_
  rw [accAt_succ, Block.step_one _ _ _ _ _ _ _ s (coord_lt t), Blocks.coord]
  exact congrArg _ (Finset.sum_congr rfl fun r _ => addend m c s t r _ _ fun _ => rfl)

end Cert.KernelIdeal.Accumulator

end
-- ==== Proof.Result.lean ====
/-
  What the kernel's program leaves in its result: every segment's mean of scores.
-/
module

public import proofs.«01_k».proof.Proof.Accumulator
public import Idealize.ShloMosaic.Lib.Pipeline.ValueKit.Point

@[expose] public section

set_option maxRecDepth 16384

noncomputable section

namespace Cert.KernelIdeal.Result

open Cert.KernelIdeal Cert.KernelIdeal.Gen Cert.KernelIdeal.Body Cert.KernelIdeal.Run Cert.KernelIdeal.Accumulator
open Cert.Proof.Spec
open Idealize.ShloMosaic Idealize.ShloMosaic.TcCoe
open Idealize.SL.Sem

variable (m : (ℓ : Loc nD τ sig) → Buf (Elt Ideal) ℓ) (c : Dev nD) (ρ : Dev nD → PrngReg)

/-- The mean of segment `s`, as the kernel computes it: the scores summed, the last bias added once for every node, over
    the segment's size. -/
def mean (s : Fin 512) : EReal :=
  Ideal.div (segment (InSegment m c s) (nodeScore m c)
    + (show EReal from m ((c : Thread nD τ).loc main_arg5) (ix1 0)) * segment (InSegment m c s) fun _ => 1) (size (InSegment m c s))

/-- The one flushing point is the last. -/
theorem last_of_flush (t : Fin cfg0.N) (h : (cfg0.win 6).flush t = true) : t.val = 12 := by
  rw [flush_6] at h; exact of_decide_eq_true h

/-- The output's array after the run. -/
theorem array_6 : (dats m 0 c).arrAt 6 cfg0.N = (fun i : S1x512.Idx => mean m c (i 1) : Vec Ideal S1x512 .f32) := by
  refine Pipeline.Dat.arrAt_eq_of_covers (dats m 0 c) 6 _ (by decide +kernel) fun t hf y => ?_
  have ht := last_of_flush t hf
  have e : ∀ s : Fin 512, (dats m 0 c).after 6 t (ix2 0 s) = mean m c s := fun s => by
    show quotient (F := Ideal) (accAt m c (t.val + 1)) (iblk m c 5 t) (ix2 0 s) = _
    rw [Block.quotient_apply, ht, Accumulator.scores, Accumulator.counts, Blocks.b2_read]
    rfl
  have hy : (cfg0.win 6).xinj (cfg0.grid.coords t) y = ix2 0 (((cfg0.win 6).blk t).view.emb y 1) := by
    funext a
    match a with
    | ⟨0, _⟩ => exact Subsingleton.elim (α := Fin 1) _ _
    | ⟨1, _⟩ =>
      apply Fin.ext
      have e1 : ((((cfg0.win 6).blk t).view.emb y) 1).val = (y 1).val :=
        win0_6.rect_emb_val_of_index_zero t 1 rfl y
      refine Eq.trans ?_ e1.symm
      rfl
  rw [hy]
  exact e _

/-- The result after the run. -/
theorem result : Pipeline.afterTail₀ cfgs (dats m) 0 (V0 m) [hostOps1] c main_v6 = (fun i : S512.Idx => mean m c (i 0) : Vec Ideal S512 .f32) := by
  unfold Pipeline.afterTail₀
  simp only [hostOps1, List.flatten_cons, List.flatten_nil, List.append_nil, List.nil_append, List.cons_append]
  after_results_simp
  have e : Pipeline.withArrays (cfgs 0).spec c (V0 m c) (fun w => (dats m 0 c).arrAt w (cfgs 0).N) (Proc.devRef .tc main_v5)
      = (fun i : S1x512.Idx => mean m c (i 1) : Vec Ideal S1x512 .f32) := by
    rw [← array_6 m c]
    exact Pipeline.withArrays_arr spec0 (by decide) c _ (fun w => (dats m 0 c).arrAt w (cfgs 0).N) 6
  rw [e]
  funext i
  have hi : i = ix1 (i 0) := eq_ix1 i
  generalize i 0 = s at hi
  subst hi
  pointwise

/-- Every fair execution ends with every segment's mean in the result. -/
theorem run : θ_run defs (onTc (τ := τ) (main (F := Ideal))) ⟨m, fun _ => 0, ρ⟩ (fun r => ∀ c : Dev nD,
    r.2.mem ((c.tc : Thread nD τ).loc main_v6) = (fun i : S512.Idx => mean m c (i 0) : Vec Ideal S512 .f32)) :=
  (θ_run _ _ _).mono (fun _ h c => ((h.1 c).2 main_v6 (Pipeline.mem_restRefs_of main_v6 (by decide) (by decide))).trans (result m c))
    (run_main m ρ)

end Cert.KernelIdeal.Result

end
-- ==== Proof.Reference.lean ====
/-
  What the reference computes: for every segment the sum of its nodes' scores, each with the last bias, over its size.
-/
module

public import proofs.«01_k».proof.Proof.Spec
public import proofs.«01_k».proof.Proof.Gen.ReferenceIdeal.Run
public import Idealize.ShloMosaic.Lib.Pointwise
public import Idealize.ShloMosaic.Lib.Routing.OpsPair
public import Idealize.ShloMosaic.Lib.WordCmp

@[expose] public section

set_option maxRecDepth 16384

noncomputable section

namespace Cert.ReferenceIdeal.Mean

open Cert.ReferenceIdeal Cert.ReferenceIdeal.Gen
open Cert.Proof Cert.Proof.Spec
open Idealize.ShloMosaic Idealize.ShloMosaic.TcCoe Idealize.ShloMosaic.Routing
open Idealize.SL.Sem

variable (x : Vec Ideal S100000x128 .f32) (ids : Vec Ideal S100000 .i32) (w1 : Vec Ideal S128x64 .f32) (b1 : Vec Ideal S64 .f32)
  (w2 : Vec Ideal S64x1 .f32) (b2 : Vec Ideal S1 .f32)

/-- Node `n` lies in segment `s`. -/
abbrev InSegment (s : Fin 512) (n : Fin 100000) : Prop := ids (ix1 n) = BitVec.ofNat 32 s.val

/-- Node `n`'s update lands at segment `s` exactly when the node's word is `s`. -/
theorem lands (s : Fin 512) (n : Fin 100000) :
    scatter_S512_S100000x1_S100000_n_0_0_1.resultIdx? (ix1 n) (broadcastInDim S100000x1 ![0] bcast_S100000_S100000x1_0 ids) = some (ix1 s)
      ↔ InSegment ids s n := by
  have hm : (0 : Fin 1) ∈ scatter_S512_S100000x1_S100000_n_0_0_1.scatterDimsToOperandDims := List.mem_singleton.2 rfl
  have hw : scatter_S512_S100000x1_S100000_n_0_0_1.window (ix1 n) 0 = 0 := by
    unfold ScatterDims.window
    rw [dif_neg fun h => (of_decide_eq_true (List.mem_filter.1 h).2) (List.mem_singleton.2 rfl)]
  have hs : scatter_S512_S100000x1_S100000_n_0_0_1.start (ix1 n) (broadcastInDim S100000x1 ![0] bcast_S100000_S100000x1_0 ids) 0
      = (ids (ix1 n) : BitVec 32).toInt := by
    unfold ScatterDims.start
    rw [dif_pos hm]
    refine congrArg BitVec.toInt (congrArg ids ?_)
    funext a
    match a with
    | ⟨0, _⟩ => rfl
  have he : (BitVec.ofNat 32 s.val).toInt = (s.val : Int) := Idealize.ShloMosaic.StableHlo.Predicate.toInt_ofNat_small _ (by have := s.isLt; omega)
  refine (resultIdx?_ix1 (N := 512) scatter_S512_S100000x1_S100000_n_0_0_1 _ _ s).trans ?_
  rw [hs, hw, Nat.cast_zero, add_zero, ← he]
  exact BitVec.toInt_inj

/-- The scatter that adds onto zeros sums the updates of a segment's nodes. -/
theorem scatter_apply (z : Vec Ideal S512 .f32) (hz : ∀ i, z i = 0) (u : Vec Ideal S100000 .f32) (s : Fin 512) :
    Host.scatterAdd (F := Ideal) (φ := .f32) scatter_S512_S100000x1_S100000_n_0_0_1 z (broadcastInDim S100000x1 ![0] bcast_S100000_S100000x1_0 ids) u (ix1 s)
      = segment (InSegment ids s) fun n => u (ix1 n) := by
  show Ideal.hostScatterAdd _ _ _ _ _ = _
  unfold Ideal.hostScatterAdd Spec.segment
  rw [hz, zero_add, Finset.sum_filter]
  refine (Fintype.sum_equiv ⟨fun n => ix1 n, fun i => i 0, fun _ => rfl, fun i => (eq_ix1 i).symm⟩ _ _ fun n => ?_).symm
  exact if_congr (lands ids s n).symm rfl rfl

/-- The hidden layer before its activation, for all nodes. -/
def pre : Vec Ideal S100000x64 .f32 :=
  addf (F := Ideal) (φ := .f32) (Host.dotGeneral (F := Ideal) (φ₁ := .f32) (φ₂ := .f32) dot_S100000x128_S128x64_S100000x64_1_0_0_1_n_n none x w1)
    (broadcastInDim S100000x64 ![0, 1] bcast_S1x64_S100000x64_0_1 (broadcastInDim S1x64 ![1] bcast_S64_S1x64_1 b1))

/-- It is the hidden layer of each node's features. -/
theorem pre_apply (n : Fin 100000) (j : Fin 64) :
    pre x w1 b1 (ix2 n j) = hidden (fun k => x (ix2 n k)) (fun k j => w1 (ix2 k j)) (fun j => b1 (ix1 j)) j := by
  unfold Spec.hidden
  pointwise [pre]

/-- An array of ones. -/
abbrev ones (S : Shape) (h : S_.BroadcastsInDim S (![] : Fin 0 → Fin S.rank)) : Vec Ideal S .f32 := broadcastInDim S ![] h (constant (F := Ideal) S_ .f32 0x3F800000#32)

/-- The hidden layer after its activation, for all nodes. -/
def act : Vec Ideal S100000x64 .f32 :=
  mulf (F := Ideal) (φ := .f32) (pre x w1 b1) (Host.divf (F := Ideal) (φ := .f32) (ones S100000x64 bcast_S_S100000x64)
    (addf (F := Ideal) (φ := .f32) (ones S100000x64 bcast_S_S100000x64) (Host.exp (F := Ideal) (φ := .f32) (Host.negf (F := Ideal) (φ := .f32) (pre x w1 b1)))))

/-- It is the hidden layer times its logistic. -/
theorem act_apply (n : Fin 100000) (j : Fin 64) : act x w1 b1 (ix2 n j) = pre x w1 b1 (ix2 n j) * Ideal.logistic (pre x w1 b1 (ix2 n j)) := by
  unfold Ideal.logistic
  pointwise [act]

/-- Every node's score with the last bias. -/
def contrib : Vec Ideal S100000 .f32 :=
  shapeCast S100000 (addf (F := Ideal) (φ := .f32) (Host.dotGeneral (F := Ideal) (φ₁ := .f32) (φ₂ := .f32) dot_S100000x64_S64x1_S100000x1_1_0_0_1_n_n none (act x w1 b1) w2)
    (broadcastInDim S100000x1 ![0, 1] bcast_S1x1_S100000x1_0_1 (broadcastInDim S1x1 ![1] bcast_S1_S1x1_1 b2))) shapeCasts_S100000x1_S100000

/-- It is the score of the node's features, and the bias. -/
theorem contrib_apply (n : Fin 100000) : contrib x w1 b1 w2 b2 (ix1 n)
    = score (fun k => x (ix2 n k)) (fun k j => w1 (ix2 k j)) (fun j => b1 (ix1 j)) (fun j => w2 (ix2 j 0)) + b2 (ix1 0) := by
  have e : contrib x w1 b1 w2 b2 (ix1 n) = (∑ j : Fin 64, act x w1 b1 (ix2 n j) * w2 (ix2 j 0)) + b2 (ix1 0) := by
    pointwise [contrib]
  rw [e]
  unfold score
  simp only [act_apply, pre_apply]

/-- The reference's result. -/
def value : Vec Ideal S512 .f32 :=
  Host.divf (F := Ideal) (φ := .f32)
    (Host.scatterAdd (F := Ideal) (φ := .f32) scatter_S512_S100000x1_S100000_n_0_0_1 (broadcastInDim S512 ![] bcast_S_S512 (constant (F := Ideal) S_ .f32 0x00000000#32))
      (broadcastInDim S100000x1 ![0] bcast_S100000_S100000x1_0 ids) (contrib x w1 b1 w2 b2))
    (maximumf (F := Ideal) (φ := .f32)
      (Host.scatterAdd (F := Ideal) (φ := .f32) scatter_S512_S100000x1_S100000_n_0_0_1 (broadcastInDim S512 ![] bcast_S_S512 (constant (F := Ideal) S_ .f32 0x00000000#32))
        (broadcastInDim S100000x1 ![0] bcast_S100000_S100000x1_0 ids) (ones S100000 bcast_S_S100000))
      (ones S512 bcast_S_S512))

/-- The array the sums start from is zero. -/
theorem zeros_apply (i : S512.Idx) : broadcastInDim S512 ![] bcast_S_S512 (constant (F := Ideal) S_ .f32 0x00000000#32) i = (0 : EReal) := by
  pointwise

/-- An array of ones is one everywhere. -/
theorem ones_apply (S : Shape) (h : S_.BroadcastsInDim S (![] : Fin 0 → Fin S.rank)) (i : S.Idx) : ones S h i = (1 : EReal) := by
  pointwise [ones]

/-- A quotient by a maximum, at one entry. -/
theorem quotient_apply (a b o : Vec Ideal S512 .f32) (i : S512.Idx) :
    Host.divf (F := Ideal) (φ := .f32) a (maximumf (F := Ideal) (φ := .f32) b o) i = Ideal.div (a i) (max (b i) (o i)) := rfl

/-- At segment `s` it is the sum of the nodes' scores, each with the bias, over the segment's size. -/
theorem value_apply (s : Fin 512) : value x ids w1 b1 w2 b2 (ix1 s)
    = Ideal.div (segment (InSegment ids s) fun n => score (fun k => x (ix2 n k)) (fun k j => w1 (ix2 k j)) (fun j => b1 (ix1 j)) (fun j => w2 (ix2 j 0)) + b2 (ix1 0))
      (size (InSegment ids s)) := by
  unfold value
  rw [quotient_apply]
  rw [scatter_apply ids _ zeros_apply, scatter_apply ids _ zeros_apply, ones_apply]
  rw [show (fun n : Fin 100000 => ones S100000 bcast_S_S100000 (ix1 n)) = fun _ => (1 : EReal) from funext fun _ => ones_apply _ _ _]
  simp only [contrib_apply]
  rfl

end Cert.ReferenceIdeal.Mean

end
-- ==== Proof.Equation.lean ====
/-
  The equation: the kernel's means, of its argument arrays, are the reference's.
-/
module

public import proofs.«01_k».proof.Proof.Result
public import proofs.«01_k».proof.Proof.Reference

@[expose] public section

set_option maxRecDepth 16384

noncomputable section

namespace Cert.Proof.Equation

open Cert.KernelIdeal Cert.KernelIdeal.Result Cert.KernelIdeal.Accumulator
open Cert.Proof Cert.Proof.Spec
open Idealize.ShloMosaic Idealize.ShloMosaic.TcCoe
open Idealize.SL.Sem

variable (m : (ℓ : Loc nD τ sig) → Buf (Elt Ideal) ℓ) (c : Dev nD)

/-- The last bias added once for every node of a segment is the bias added to the segment's sum that often. -/
theorem value_eq_mean :
    Cert.ReferenceIdeal.Mean.value (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      = (fun i : S512.Idx => mean m c (i 0) : Vec Ideal S512 .f32) := by
  funext i
  have hi : i = ix1 (i 0) := eq_ix1 i
  generalize i 0 = s at hi
  subst hi
  refine (Cert.ReferenceIdeal.Mean.value_apply _ _ _ _ _ _ s).trans ?_
  rw [segment_add_const]
  rfl

end Cert.Proof.Equation

end
-- ==== Proof.lean ====
/-
  The certificate: the frames of the kernel, of its reading over the extended reals and of the reference, and that the
  last two compute the same means.
-/
module

public import proofs.«01_k».proof.Defs
public import proofs.«01_k».proof.Proof.BitsRun
public import proofs.«01_k».proof.Proof.Equation
public import Idealize.ShloMosaic.Lib.Claim

@[expose] public section

noncomputable section

namespace Cert.Proof

open Idealize.ShloMosaic Idealize.SL.Sem

/-- The reference ends with its arguments unchanged; it has no semaphores. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run (F := Ideal) m ρ)

/-- From the same arguments the kernel over the extended reals and the reference end with the same result. -/
theorem algebraic : Cert.algebraic_KernelIdeal_ReferenceIdeal (hKernelIdeal := Cert.KernelIdeal.Gen.facts)
    (hReferenceIdeal := Cert.ReferenceIdeal.Gen.facts) := fun m ρ m' ρ' _ hm =>
  ⟨fun c => (fun i : Cert.KernelIdeal.S512.Idx => Cert.KernelIdeal.Result.mean m c (i 0) : Vec Ideal Cert.KernelIdeal.S512 .f32),
    (θ_run _ _ _).mono (fun _ h c => ⟨h.2 c, h.1.1 c⟩) (θ_run_and (Cert.KernelIdeal.Run.frame m ρ) (Cert.KernelIdeal.Result.run m ρ)),
    (θ_run _ _ _).mono (fun _ h c => ⟨(h c).1.trans (by
      obtain ⟨h0, h1, h2, h3, h4, h5⟩ := hm c
      refine Eq.trans ?_ (Equation.value_eq_mean m c)
      rw [h0, h1, h2, h3, h4, h5]
      rfl), (h c).2⟩) (Cert.ReferenceIdeal.Value.run (F := Ideal) m' ρ')⟩

/-- Every claim. -/
theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ, frame_reference, trivial, algebraic⟩

end Cert.Proof

end
